-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_are_the_table [hPre_weights_are_the_table : Cert.Pre_weights_are_the_table.Facts] (m : (ℓ : Loc Cert.KernelIdeal.nD Cert.KernelIdeal.τ Cert.KernelIdeal.sig) → Buf (Elt Ideal) ℓ) : Prop :=
  ∀ c : Dev Cert.KernelIdeal.nD,
    (Cert.Pre_weights_are_the_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_are_the_table [hPre_weights_are_the_table : Cert.Pre_weights_are_the_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_are_the_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelNamed (m : (ℓ : Loc Cert.KernelNamed.nD Cert.KernelNamed.τ Cert.KernelNamed.sig) → Buf (Elt Ideal) ℓ) : Prop :=
  True

def Pre_SinusoidIdeal (m : (ℓ : Loc Cert.SinusoidIdeal.nD Cert.SinusoidIdeal.τ Cert.SinusoidIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_weights_are_the_table [hKernelIdeal : Cert.KernelIdeal.Facts] [hPre_weights_are_the_table : Cert.Pre_weights_are_the_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_are_the_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_weights_are_the_table [hReferenceIdeal : Cert.ReferenceIdeal.Facts] [hPre_weights_are_the_table : Cert.Pre_weights_are_the_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_are_the_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelNamed [hKernelNamed : Cert.KernelNamed.Facts] : Prop :=
  ∀ (m : (ℓ : Loc Cert.KernelNamed.nD Cert.KernelNamed.τ Cert.KernelNamed.sig) → Buf (Elt Ideal) ℓ) (g : Dev Cert.KernelNamed.nD → PrngReg), Pre_KernelNamed m →
    θ_run (Cert.KernelNamed.defs (F := Ideal)) (onTc (τ := Cert.KernelNamed.τ) (Cert.KernelNamed.main (F := Ideal))) ⟨m, fun _ => 0, g⟩ (fun r => (∀ c : Dev Cert.KernelNamed.nD,
      r.2.mem ((c.tc : Thread Cert.KernelNamed.nD Cert.KernelNamed.τ).loc Cert.KernelNamed.main_arg0) = m ((c.tc : Thread Cert.KernelNamed.nD Cert.KernelNamed.τ).loc Cert.KernelNamed.main_arg0)
      ∧ r.2.mem ((c.tc : Thread Cert.KernelNamed.nD Cert.KernelNamed.τ).loc Cert.KernelNamed.main_arg1) = m ((c.tc : Thread Cert.KernelNamed.nD Cert.KernelNamed.τ).loc Cert.KernelNamed.main_arg1))
      ∧ r.2.sem = fun _ => 0)

def quiescent_SinusoidIdeal [hSinusoidIdeal : Cert.SinusoidIdeal.Facts] : Prop :=
  ∀ (m : (ℓ : Loc Cert.SinusoidIdeal.nD Cert.SinusoidIdeal.τ Cert.SinusoidIdeal.sig) → Buf (Elt Ideal) ℓ) (g : Dev Cert.SinusoidIdeal.nD → PrngReg), Pre_SinusoidIdeal m →
    θ_run (Cert.SinusoidIdeal.defs (F := Ideal)) (onTc (τ := Cert.SinusoidIdeal.τ) (Cert.SinusoidIdeal.main (F := Ideal))) ⟨m, fun _ => 0, g⟩ (fun r => (∀ c : Dev Cert.SinusoidIdeal.nD,
      r.2.mem ((c.tc : Thread Cert.SinusoidIdeal.nD Cert.SinusoidIdeal.τ).loc Cert.SinusoidIdeal.main_arg0) = m ((c.tc : Thread Cert.SinusoidIdeal.nD Cert.SinusoidIdeal.τ).loc Cert.SinusoidIdeal.main_arg0)
      ∧ r.2.mem ((c.tc : Thread Cert.SinusoidIdeal.nD Cert.SinusoidIdeal.τ).loc Cert.SinusoidIdeal.main_arg1) = m ((c.tc : Thread Cert.SinusoidIdeal.nD Cert.SinusoidIdeal.τ).loc Cert.SinusoidIdeal.main_arg1))
      ∧ r.2.sem = fun _ => 0)

def preserves_Kernel_KernelIdeal : Prop :=
  True

def algebraic_KernelIdeal_ReferenceIdeal_pre_weights_are_the_table [hKernelIdeal : Cert.KernelIdeal.Facts] [hReferenceIdeal : Cert.ReferenceIdeal.Facts] [hPre_weights_are_the_table : Cert.Pre_weights_are_the_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_are_the_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel_KernelNamed : Prop :=
  IdealRules.named_const.Statement Cert.KernelNamed.κ "neg_scale" .f32 0xBC13826E#32 ((-((Real.log 10000) * 1023⁻¹) : ℝ) : EReal)

def algebraic_KernelNamed_SinusoidIdeal [hKernelNamed : Cert.KernelNamed.Facts] [hSinusoidIdeal : Cert.SinusoidIdeal.Facts] : Prop :=
  ∀ (m : (ℓ : Loc Cert.KernelNamed.nD Cert.KernelNamed.τ Cert.KernelNamed.sig) → Buf (Elt Ideal) ℓ) (g : Dev Cert.KernelNamed.nD → PrngReg)
    (m' : (ℓ : Loc Cert.SinusoidIdeal.nD Cert.SinusoidIdeal.τ Cert.SinusoidIdeal.sig) → Buf (Elt Ideal) ℓ) (g' : Dev Cert.SinusoidIdeal.nD → PrngReg), Pre_KernelNamed m →
    (∀ c : Dev Cert.KernelNamed.nD,
      m' ((c.tc : Thread Cert.SinusoidIdeal.nD Cert.SinusoidIdeal.τ).loc Cert.SinusoidIdeal.main_arg0) = m ((c.tc : Thread Cert.KernelNamed.nD Cert.KernelNamed.τ).loc Cert.KernelNamed.main_arg0)
      ∧ m' ((c.tc : Thread Cert.SinusoidIdeal.nD Cert.SinusoidIdeal.τ).loc Cert.SinusoidIdeal.main_arg1) = m ((c.tc : Thread Cert.KernelNamed.nD Cert.KernelNamed.τ).loc Cert.KernelNamed.main_arg1)) →
    ∃ (v0 : (c : Dev Cert.KernelNamed.nD) → Buf (Elt Ideal) ((c.tc : Thread Cert.KernelNamed.nD Cert.KernelNamed.τ).loc Cert.KernelNamed.main_v0)),
      θ_run (Cert.KernelNamed.defs (F := Ideal)) (onTc (τ := Cert.KernelNamed.τ) (Cert.KernelNamed.main (F := Ideal))) ⟨m, fun _ => 0, g⟩ (fun r => ∀ c : Dev Cert.KernelNamed.nD,
          r.2.mem ((c.tc : Thread Cert.KernelNamed.nD Cert.KernelNamed.τ).loc Cert.KernelNamed.main_v0) = v0 c
          ∧ r.2.mem ((c.tc : Thread Cert.KernelNamed.nD Cert.KernelNamed.τ).loc Cert.KernelNamed.main_arg0) = m ((c.tc : Thread Cert.KernelNamed.nD Cert.KernelNamed.τ).loc Cert.KernelNamed.main_arg0)
          ∧ r.2.mem ((c.tc : Thread Cert.KernelNamed.nD Cert.KernelNamed.τ).loc Cert.KernelNamed.main_arg1) = m ((c.tc : Thread Cert.KernelNamed.nD Cert.KernelNamed.τ).loc Cert.KernelNamed.main_arg1))
      ∧ θ_run (Cert.SinusoidIdeal.defs (F := Ideal)) (onTc (τ := Cert.SinusoidIdeal.τ) (Cert.SinusoidIdeal.main (F := Ideal))) ⟨m', fun _ => 0, g'⟩ (fun r => ∀ c : Dev Cert.SinusoidIdeal.nD,
          r.2.mem ((c.tc : Thread Cert.SinusoidIdeal.nD Cert.SinusoidIdeal.τ).loc Cert.SinusoidIdeal.main_v22) = v0 c
          ∧ r.2.mem ((c.tc : Thread Cert.SinusoidIdeal.nD Cert.SinusoidIdeal.τ).loc Cert.SinusoidIdeal.main_arg0) = m' ((c.tc : Thread Cert.SinusoidIdeal.nD Cert.SinusoidIdeal.τ).loc Cert.SinusoidIdeal.main_arg0)
          ∧ r.2.mem ((c.tc : Thread Cert.SinusoidIdeal.nD Cert.SinusoidIdeal.τ).loc Cert.SinusoidIdeal.main_arg1) = m' ((c.tc : Thread Cert.SinusoidIdeal.nD Cert.SinusoidIdeal.τ).loc Cert.SinusoidIdeal.main_arg1))

def Claim : Prop :=
  ∃ (hKernel : Cert.Kernel.Facts) (hKernelIdeal : Cert.KernelIdeal.Facts) (hReferenceIdeal : Cert.ReferenceIdeal.Facts) (hKernelNamed : Cert.KernelNamed.Facts) (hSinusoidIdeal : Cert.SinusoidIdeal.Facts) (hPre_weights_are_the_table : Cert.Pre_weights_are_the_table.Facts),
    quiescent_Kernel (hKernel := hKernel)
    ∧ quiescent_KernelIdeal (hKernelIdeal := hKernelIdeal)
    ∧ quiescent_KernelIdeal_pre_weights_are_the_table (hKernelIdeal := hKernelIdeal) (hPre_weights_are_the_table := hPre_weights_are_the_table)
    ∧ quiescent_ReferenceIdeal (hReferenceIdeal := hReferenceIdeal)
    ∧ quiescent_ReferenceIdeal_pre_weights_are_the_table (hReferenceIdeal := hReferenceIdeal) (hPre_weights_are_the_table := hPre_weights_are_the_table)
    ∧ quiescent_KernelNamed (hKernelNamed := hKernelNamed)
    ∧ quiescent_SinusoidIdeal (hSinusoidIdeal := hSinusoidIdeal)
    ∧ preserves_Kernel_KernelIdeal
    ∧ algebraic_KernelIdeal_ReferenceIdeal_pre_weights_are_the_table (hKernelIdeal := hKernelIdeal) (hReferenceIdeal := hReferenceIdeal) (hPre_weights_are_the_table := hPre_weights_are_the_table)
    ∧ preserves_Kernel_KernelNamed
    ∧ algebraic_KernelNamed_SinusoidIdeal (hKernelNamed := hKernelNamed) (hSinusoidIdeal := hSinusoidIdeal)
-- ==== Pre_weights_are_the_table.lean ====
abbrev S32768 : Shape := ⟨1, ![32768]⟩
abbrev S32770x2048 : Shape := ⟨2, ![32770, 2048]⟩
abbrev S1024 : Shape := ⟨1, ![1024]⟩
abbrev S_ : Shape := ⟨0, ![]⟩
abbrev S32770 : Shape := ⟨1, ![32770]⟩
abbrev S32770x1 : Shape := ⟨2, ![32770, 1]⟩
abbrev S1x1024 : Shape := ⟨2, ![1, 1024]⟩
abbrev S32770x1024 : Shape := ⟨2, ![32770, 1024]⟩
abbrev S1 : Shape := ⟨1, ![1]⟩
abbrev S2048 : Shape := ⟨1, ![2048]⟩

class Facts : Prop where
  bcast_S_S1024 : S_.BroadcastsInDim S1024 (![] : Fin 0 → Fin S1024.rank)
  bcast_S32770_S32770x1_0 : S32770.BroadcastsInDim S32770x1 (![0] : Fin 1 → Fin S32770x1.rank)
  bcast_S1024_S1x1024_1 : S1024.BroadcastsInDim S1x1024 (![1] : Fin 1 → Fin S1x1024.rank)
  bcast_S32770x1_S32770x1024_0_1 : S32770x1.BroadcastsInDim S32770x1024 (![0, 1] : Fin 2 → Fin S32770x1024.rank)
  bcast_S1x1024_S32770x1024_0_1 : S1x1024.BroadcastsInDim S32770x1024 (![0, 1] : Fin 2 → Fin S32770x1024.rank)
  concatenates_S32770x1024_S32770x1024_S32770x2048_d1 : Shape.Concatenates [S32770x1024, S32770x1024] S32770x2048 1
  bcast_S_S1 : S_.BroadcastsInDim S1 (![] : Fin 0 → Fin S1.rank)
  bcast_S_S2048 : S_.BroadcastsInDim S2048 (![] : Fin 0 → Fin S2048.rank)
  scatter_S32770x2048_S1_S2048_0_0_0_0_wf : ScatterDims.WF S32770x2048 S1 S2048 [0] [0] [0] 0

variable [Facts]

def scatter_S32770x2048_S1_S2048_0_0_0_0 : ScatterDims S32770x2048 S1 S2048 where
  updateWindowDims := [0]
  insertedWindowDims := [0]
  scatterDimsToOperandDims := [0]
  indexVectorDim := 0
  wf := scatter_S32770x2048_S1_S2048_0_0_0_0_wf
def fn {F : FTy → Type} [FloatOps F] (main_arg0 : IVec S32768 32) (main_arg1 : FVec F S32770x2048 .f32) : IVec S32770x2048 1 :=
  let main_v0 : FVec F S1024 .f32 := sitofp .f32 (iotaInDim S1024 32 0)
  let main_cst : FVec F S_ .f32 := constant S_ .f32 0xBC13826E#32
  let main_v1 : FVec F S1024 .f32 := broadcastInDim S1024 ![] bcast_S_S1024 main_cst
  let main_v2 : FVec F S1024 .f32 := mulf main_v0 main_v1
  let main_v3 : FVec F S1024 .f32 := Host.exp main_v2
  let main_v4 : FVec F S32770 .f32 := sitofp .f32 (iotaInDim S32770 32 0)
  let main_v5 : FVec F S32770x1 .f32 := broadcastInDim S32770x1 ![0] bcast_S32770_S32770x1_0 main_v4
  let main_v6 : FVec F S1x1024 .f32 := broadcastInDim S1x1024 ![1] bcast_S1024_S1x1024_1 main_v3
  let main_v7 : FVec F S32770x1024 .f32 := broadcastInDim S32770x1024 ![0, 1] bcast_S32770x1_S32770x1024_0_1 main_v5
  let main_v8 : FVec F S32770x1024 .f32 := broadcastInDim S32770x1024 ![0, 1] bcast_S1x1024_S32770x1024_0_1 main_v6
  let main_v9 : FVec F S32770x1024 .f32 := mulf main_v7 main_v8
  let main_v10 : FVec F S32770x1024 .f32 := Host.sin main_v9
  let main_v11 : FVec F S32770x1024 .f32 := Host.cos main_v9
  let main_v12 : FVec F S32770x2048 .f32 := (fun a b => concatenate S32770x2048 1 [⟨S32770x1024, a⟩, ⟨S32770x1024, b⟩] concatenates_S32770x1024_S32770x1024_S32770x2048_d1) main_v10 main_v11
  let main_c : IVec S_ 32 := constantI S_ 32 1#32
  let main_v13 : IVec S1 32 := broadcastInDim S1 ![] bcast_S_S1 main_c
  let main_cst_0 : FVec F S_ .f32 := constant S_ .f32 0x00000000#32
  let main_v14 : FVec F S2048 .f32 := broadcastInDim S2048 ![] bcast_S_S2048 main_cst_0
  let main_v15 : FVec F S32770x2048 .f32 := (fun x i u => Host.scatter scatter_S32770x2048_S1_S2048_0_0_0_0 (fun _ b => b) x i u) main_v12 main_v13 main_v14
  let main_v16 : IVec S32770x2048 1 := cmpf .oeq main_arg1 main_v15
  main_v16
-- ==== Kernel.lean ====
abbrev S32768 : Shape := ⟨1, ![32768]⟩
abbrev S32770x2048 : Shape := ⟨2, ![32770, 2048]⟩
abbrev S32768x2048 : Shape := ⟨2, ![32768, 2048]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 3
  | .vmem => 2
  | .smem => 0
  | _ => 0

abbrev bufTy : (tb : Table) → Fin (tcTables nBuf tb) → BufTy
  | .hbm, ⟨0, _⟩ => ⟨S32768, .i32⟩
  | .hbm, ⟨1, _⟩ => ⟨S32770x2048, .f32⟩
  | .hbm, ⟨2, _⟩ => ⟨S32768x2048, .f32⟩
  | .local _ .vmem, ⟨0, _⟩ => ⟨S512x2048, .f32⟩
  | .local _ .vmem, ⟨1, _⟩ => ⟨S512x2048, .f32⟩
  | _, _ => ⟨S32768, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S32768 : Shape := ⟨1, ![32768]⟩
abbrev S32770x2048 : Shape := ⟨2, ![32770, 2048]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x2048 : Shape := ⟨2, ![32768, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32770x2048, .f32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S1, .i32⟩
  | .hbm, ⟨15, _⟩ => ⟨S_, .i32⟩
  | .hbm, ⟨16, _⟩ => ⟨S32768x1, .i32⟩
  | .hbm, ⟨17, _⟩ => ⟨S32768x1, .i1⟩
  | .hbm, ⟨18, _⟩ => ⟨S1x1, .i32⟩
  | .hbm, ⟨19, _⟩ => ⟨S32768x1, .i32⟩
  | .hbm, ⟨20, _⟩ => ⟨S32768x1, .i1⟩
  | .hbm, ⟨21, _⟩ => ⟨S32768x1, .i1⟩
  | .hbm, ⟨22, _⟩ => ⟨S_, .i1⟩
  | .hbm, ⟨23, _⟩ => ⟨S32768, .i1⟩
  | .hbm, ⟨24, _⟩ => ⟨S32768x2048, .f32⟩
  | .hbm, ⟨25, _⟩ => ⟨S32768x2048, .i1⟩
  | .hbm, ⟨26, _⟩ => ⟨S_, .f32⟩
  | .hbm, ⟨27, _⟩ => ⟨S32768x2048, .f32⟩
  | .hbm, ⟨28, _⟩ => ⟨S32768x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== KernelNamed.lean ====
variable {F : FTy → Type} [FloatOps F] [Named F]
def κ : String → Option EReal := fun
  | "neg_scale" => some ((-((Real.log 10000) * 1023⁻¹) : ℝ) : EReal)
  | _ => none
-- ==== SinusoidIdeal.lean ====
abbrev S32768 : Shape := ⟨1, ![32768]⟩
abbrev S32770x2048 : Shape := ⟨2, ![32770, 2048]⟩
abbrev S_ : Shape := ⟨0, ![]⟩
abbrev S1024 : Shape := ⟨1, ![1024]⟩
abbrev S32770 : Shape := ⟨1, ![32770]⟩
abbrev S32770x1 : Shape := ⟨2, ![32770, 1]⟩
abbrev S1x1024 : Shape := ⟨2, ![1, 1024]⟩
abbrev S32770x1024 : Shape := ⟨2, ![32770, 1024]⟩
abbrev S1 : Shape := ⟨1, ![1]⟩
abbrev S2048 : Shape := ⟨1, ![2048]⟩
abbrev S32768x1 : Shape := ⟨2, ![32768, 1]⟩
abbrev S1x1 : Shape := ⟨2, ![1, 1]⟩
abbrev S32768x2048 : Shape := ⟨2, ![32768, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32770x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S32770, .f32⟩
  | .hbm, ⟨12, _⟩ => ⟨S32770x1, .f32⟩
  | .hbm, ⟨13, _⟩ => ⟨S1x1024, .f32⟩
  | .hbm, ⟨14, _⟩ => ⟨S32770x1024, .f32⟩
  | .hbm, ⟨15, _⟩ => ⟨S32770x1024, .f32⟩
  | .hbm, ⟨16, _⟩ => ⟨S32770x1024, .f32⟩
  | .hbm, ⟨17, _⟩ => ⟨S32770x1024, .f32⟩
  | .hbm, ⟨18, _⟩ => ⟨S32770x1024, .f32⟩
  | .hbm, ⟨19, _⟩ => ⟨S32770x2048, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S2048, .f32⟩
  | .hbm, ⟨24, _⟩ => ⟨S32770x2048, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S1, .i32⟩
  | .hbm, ⟨38, _⟩ => ⟨S_, .i32⟩
  | .hbm, ⟨39, _⟩ => ⟨S32768x1, .i32⟩
  | .hbm, ⟨40, _⟩ => ⟨S32768x1, .i1⟩
  | .hbm, ⟨41, _⟩ => ⟨S1x1, .i32⟩
  | .hbm, ⟨42, _⟩ => ⟨S32768x1, .i32⟩
  | .hbm, ⟨43, _⟩ => ⟨S32768x1, .i1⟩
  | .hbm, ⟨44, _⟩ => ⟨S32768x1, .i1⟩
  | .hbm, ⟨45, _⟩ => ⟨S_, .i1⟩
  | .hbm, ⟨46, _⟩ => ⟨S32768, .i1⟩
  | .hbm, ⟨47, _⟩ => ⟨S32768x2048, .f32⟩
  | .hbm, ⟨48, _⟩ => ⟨S32768x2048, .i1⟩
  | .hbm, ⟨49, _⟩ => ⟨S_, .f32⟩
  | .hbm, ⟨50, _⟩ => ⟨S32768x2048, .f32⟩
  | .hbm, ⟨51, _⟩ => ⟨S32768x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v22 : Ref sig .tc := ⟨.hbm, 51, rfl⟩

abbrev nD : Nat := 1
abbrev τ : Topo := Topo.v7x

variable {F : FTy → Type} [FloatOps F]
-- ==== Proof.Entry.lean ====
/-
  One entry of the sinusoidal position table as an extended real, and the words that the programs count rows and
  columns with. The kernel's modules and the references' modules both end at `entry`.
-/
module

public import Idealize.ShloMosaic.PureOps
public import Idealize.ShloMosaic.PureOps.Ideal
public import Idealize.ShloMosaic.Lib.WordArith
public import Idealize.ShloMosaic.Lib.WordCmp

@[expose] public section

noncomputable section

namespace Cert.PosTable

open Idealize.ShloMosaic

/-- The number `n` as an extended real. -/
def num (n : ℕ) : EReal := ((n : ℝ) : EReal)

/-- The angle of position `r` at frequency `k`, where the frequencies are the exponentials of the multiples of `s`. -/
def angle (s : EReal) (r k : ℕ) : EReal := num r * Ideal.exp (num k * s)

/-- The table's entry for position `r` in column `c`: sines in the first 1024 columns, cosines in the last 1024. -/
def entry (s : EReal) (r c : ℕ) : EReal :=
  if c < 1024 then Ideal.sin (angle s r c) else Ideal.cos (angle s r (c - 1024))

/-- In the first half of a row the entry is a sine. -/
theorem entry_sin (s : EReal) {r c : ℕ} (h : c < 1024) : entry s r c = Ideal.sin (angle s r c) := if_pos h

/-- In the second half of a row the entry is a cosine. -/
theorem entry_cos (s : EReal) (r k : ℕ) : entry s r (1024 + k) = Ideal.cos (angle s r k) := by
  unfold entry
  rw [if_neg (by omega), Nat.add_sub_cancel_left]

/-- A counting word converted to a float is the number it counts. -/
theorem sitofp_count {n : ℕ} (h : n < 2 ^ 31) :
    (FloatOps.sitofp .f32 (BitVec.ofNat 32 n) : Ideal .f32) = num n := by
  show (((BitVec.ofNat 32 n).toInt : ℝ) : EReal) = ((n : ℝ) : EReal)
  rw [WordArith.toInt_ofNat_small n h, Int.cast_natCast]

/-- The row word that block `t` of the kernel forms at its local row `r`: local row, plus 512 rows per block, plus the
    two rows skipped. -/
theorem row_word (t r : ℕ) :
    BitVec.ofNat 32 r + (BitVec.ofNat 32 t * 512#32 + 2#32) = BitVec.ofNat 32 (t * 512 + r + 2) := by
  rw [← BitVec.ofNat_mul, ← BitVec.ofNat_add, ← BitVec.ofNat_add]
  exact congrArg (BitVec.ofNat 32) (by omega)

end Cert.PosTable

end
-- ==== Proof.Block.lean ====
/-
  What the kernel's body computes for one block of 512 rows, read at an entry: the angles of the block's rows, and the
  block's two stores (sines on the left, cosines on the right) as one function of the row and the column.
-/
module

public import proofs.«01_k».proof.Proof.Entry
public import Idealize.ShloMosaic.Lib.Pipeline.Value
public import Idealize.ShloMosaic.Lib.Pipeline.ValueKit.Geometry
public import Idealize.ShloMosaic.Lib.ValueIdxCore

@[expose] public section

noncomputable section

namespace Cert.PosTable

open Idealize.ShloMosaic Idealize.ShloMosaic.ValueIdx

/-- The angles of block `t` as the body computes them, at local row `r` and frequency `k`: the angle of row
    `512 t + r + 2`, the frequencies' exponents being the multiples of `s`. -/
theorem block_angle (t : ℕ) (ht : t < 64) (h0 : (⟨2, ![512, 1024]⟩ : Shape).Iotas .tc 32 [0])
    (h1 : (⟨2, ![1, 1024]⟩ : Shape).Iotas .tc 32 [1]) (hb : (⟨2, ![1, 1024]⟩ : Shape).Broadcasts ⟨2, ![512, 1024]⟩)
    (s : Ideal .f32) (x : (⟨2, ![512, 1024]⟩ : Shape).Idx) :
    (mulf
        (sitofp .f32 (addi (iota .tc ⟨2, ![512, 1024]⟩ 32 [0] h0)
          (broadcast ⟨2, ![512, 1024]⟩ (Scalar.addi (Scalar.muli (BitVec.ofNat 32 t) 512#32) 2#32))) : FVec Ideal ⟨2, ![512, 1024]⟩ .f32)
        (broadcastTo ⟨2, ![512, 1024]⟩
          (exp (mulf (sitofp .f32 (iota .tc ⟨2, ![1, 1024]⟩ 32 [1] h1) : FVec Ideal ⟨2, ![1, 1024]⟩ .f32)
            (broadcast ⟨2, ![1, 1024]⟩ s))) hb) : FVec Ideal ⟨2, ![512, 1024]⟩ .f32) x
      = angle s (t * 512 + (x 0).val + 2) (x 1).val := by
  have hx0 : (x 0).val < 512 := idx2_lt0 x
  have hx1 : (x 1).val < 1024 := idx2_lt1 x
  have hbt := fun (v : FVec Ideal ⟨2, ![1, 1024]⟩ .f32) => broadcastTo_apply v hb x (ix2 (0 : Fin 1) (x 1 : Fin 1024)) fun a => by
    match a with
    | ⟨0, _⟩ => rfl
    | ⟨1, _⟩ => rfl
  have e0 : (FloatOps.sitofp .f32 (iota .tc ⟨2, ![512, 1024]⟩ 32 [0] h0 x + (BitVec.ofNat 32 t * 512#32 + 2#32)) : Ideal .f32)
      = num (t * 512 + (x 0).val + 2) := by
    rw [iota_single_apply, row_word, sitofp_count (by omega)]
  have e1 : (FloatOps.sitofp .f32 (iota .tc ⟨2, ![1, 1024]⟩ 32 [1] h1 (ix2 (0 : Fin 1) (x 1 : Fin 1024))) : Ideal .f32)
      = num (x 1).val := by
    rw [iota_single_apply]
    exact sitofp_count (n := (x 1).val) (by omega)
  unfold mulf
  rw [hbt]
  unfold angle
  rw [← e0, ← e1]
  rfl

/-- A block whose right half holds the cosines of the angles `A` and whose left half holds their sines, the angles being
    those of the rows from `R + 2` on, holds the table's entries of those rows. -/
theorem halves_entry (s : EReal) (R : ℕ) (A : FVec Ideal ⟨2, ![512, 1024]⟩ .f32)
    (hA : ∀ x : (⟨2, ![512, 1024]⟩ : Shape).Idx, A x = angle s (R + (x 0).val + 2) (x 1).val) (hl hr)
    (y : (⟨2, ![512, 2048]⟩ : Shape).Idx)
    (hc : ∃ p ∈ ([⟨Rect.unit (s := ⟨2, ![512, 2048]⟩) ![0, 1024] ![512, 1024] hr, cos A⟩,
      ⟨Rect.unit (s := ⟨2, ![512, 2048]⟩) ![0, 0] ![512, 1024] hl, sin A⟩] : List (View.Piece (Elt Ideal) ⟨2, ![512, 2048]⟩ .f32)),
      y ∈ p.1.set) :
    View.canon (Val := Elt Ideal) (e := .f32) [⟨Rect.unit (s := ⟨2, ![512, 2048]⟩) ![0, 1024] ![512, 1024] hr, cos A⟩,
      ⟨Rect.unit (s := ⟨2, ![512, 2048]⟩) ![0, 0] ![512, 1024] hl, sin A⟩] y = entry s (R + (y 0).val + 2) (y 1).val := by
  refine View.canon_apply_of_pieces (Val := Elt Ideal) (e := .f32)
    (fun y : (⟨2, ![512, 2048]⟩ : Shape).Idx => entry s (R + (y 0).val + 2) (y 1).val) _ (fun p hp => ?_) y hc
  rcases List.mem_cons.1 hp with rfl | hp
  · intro x
    show Ideal.cos (A x) = entry s (R + (Rect.emb _ x 0).val + 2) (Rect.emb _ x 1).val
    rw [ValueKit.rect_emb_unit_val, ValueKit.rect_emb_unit_val]
    show _ = entry s (R + (0 + (x 0).val) + 2) (1024 + (x 1).val)
    rw [entry_cos, hA, Nat.zero_add]
  · obtain rfl := List.mem_singleton.1 hp
    intro x
    have hx : (x 1).val < 1024 := (x 1).isLt
    show Ideal.sin (A x) = entry s (R + (Rect.emb _ x 0).val + 2) (Rect.emb _ x 1).val
    rw [ValueKit.rect_emb_unit_val, ValueKit.rect_emb_unit_val]
    show _ = entry s (R + (0 + (x 0).val) + 2) (0 + (x 1).val)
    rw [Nat.zero_add, Nat.zero_add, entry_sin s hx, hA]

end Cert.PosTable

end
-- ==== Proof.IdealRun.lean ====
/-
  The launch of the kernel KernelIdeal: what the body leaves in its block, the body's triple, the pipeline's proof data, and the
  run of @main. The kernel stages no argument, so its one window is the result's. The set-up follows the launch's own.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The left half of a block, where the sines go. -/
abbrev left : Rect S512x2048 := Rect.unit (s := S512x2048) ![0, 0] S512x1024.size inb_S512x2048_S512x1024_0_0

/-- The right half of a block, where the cosines go. -/
abbrev right : Rect S512x2048 := Rect.unit (s := S512x2048) ![0, 1024] S512x1024.size inb_S512x2048_S512x1024_0_1024

/-- The block after the body at grid point `i`: its two stores, the later one first. -/
def stored (i : grid0.Coords) : Vec F S512x2048 .f32 :=
  View.canon [⟨right, k0_pay3 (F := F) i⟩, ⟨left, k0_pay2 (F := F) i⟩]

/-- The two halves are the whole block. -/
theorem halves_cover (p q : Vec F S512x1024 .f32) (y : S512x2048.Idx) :
    ∃ pc ∈ ([⟨right, p⟩, ⟨left, q⟩] : List (View.Piece (Elt F) S512x2048 .f32)), y ∈ pc.1.set :=
  View.cover_of_tiled [⟨right, p⟩, ⟨left, q⟩] S512x1024.size (by rfl) y

set_option maxHeartbeats 1000000 in
/-- The body, given its block with anything in it, leaves the block at `stored`. -/
theorem body_triple (c : Dev nD) (E : Set ℕ) (i : grid0.Coords) (arg1 : Memref sig .tc .vmem S512x2048 .f32)
    (harg1 : arg1.IsWhole) (K : PUnit → sProp 𝕄) :
    iprop((∃ d, owns (c : Thread nD τ) arg1 fullShare d)
        ∗ (iprop(owns (c : Thread nD τ) arg1 fullShare (stored i)) -∗ K ⟨⟩))
      ⊢ wp frame (wpE (defs₀ (F := F)) Variants.none c none) E (cc0__sincos_block i arg1 harg1) K := by
  simp only [cc0__sincos_block_eq_skeleton]; unfold cc0__sincos_block_skel
  unfold owns
  iintro ⟨⟨%d0, %f0, -, H0⟩, Hk⟩
  sl_exec
  sl_step
  iapply Hk
  iexists _; isplitr
  swap; · iexact H0
  ipureintro
  exact View.read_writes_eq_canon _ _ _ (halves_cover _ _)

/-- The pipeline's proof data on core `c`: the result array as launched, and its block after the body at `stored`. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => stored (grid0.coords t)
  Φ _ := Pipeline.ΦA spec0 c
  q _ := fullShare
  owed _ := 0

/-- What the body leaves in the result's window. -/
theorem after_eq (c : Dev nD) (t : Fin cfg0.N) : (dats m 0 c).after 0 t = stored (grid0.coords t) := by
  dsimp only [dats]

/-- What the body is called with at point `t`. -/
def before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- What the body returns at point `t`. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The body at any point of the grid. -/
theorem body_at (c : Dev nD) (t : Fin cfg0.N) :
    before m c t ⊢ wp frame (wpE (defs₀ (F := F)) Variants.none c none) Set.univ (bodyAt0 t) (fun _ => returned m c t) := by
  unfold before returned bodyAt0
  rw [show (dats m 0 c).Φ t.succ = (dats m 0 c).Φ t.castSucc from rfl,
    show (dats m 0 c).owesAt () t.succ = (dats m 0 c).owesAt () t.castSucc from rfl,
    after_eq]
  iintro ⟨HΦ, Ho, ⟨%d0, H0⟩⟩
  iapply (body_triple c Set.univ (grid0.coords t) _ _ _)
  isplitl [H0]; · iexists _; iexact H0
  iintro ⟨H0⟩
  isplitl [HΦ]; · iexact HΦ
  isplitl [Ho]; · iexact Ho
  iexact H0

/-- The pipeline calls the body at point `t` with the staging buffer of that point. -/
theorem called_at (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, called_at]
  exact triple_restated (body_at m c t) rfl .rfl fun _ => .rfl

set_option maxHeartbeats 800000 in
/-- @main is the pipeline's region alone. -/
theorem main_region (𝒱₀ : Variants) : Pipeline.HMain (Ix := Unit) (Name := ℕ) (U := UR sig nD τ) (Lvl := ℕ) cfgs 0 defs₀ 𝒱₀ m
    (main (F := F)) (fun c b => m ((c : Thread nD τ).loc b)) :=
  Pipeline.hmain_region cfgs 0 defs₀ 𝒱₀ m main fun c => (main_chain c).trans rfl

set_option backward.isDefEq.respectTransparency.types false in
set_option maxHeartbeats 800000 in
/-- Every run of @main ends, with the result array as the proof data computes it, every other buffer as launched, and
    every semaphore counter at zero. -/
theorem launched : θ_run defs (onTc (τ := τ) (main (F := F))) (s₀ m ρ)
    (fun r => (Pipeline.FramePost cfgs (dats m) 0 fun c b => m ((c : Thread nD τ).loc b)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := fun c b => m ((c : Thread nD τ).loc b)) (hmain := main_region m Variants.none)
    (hA := fun c w => by dsimp only [dats]) (hΦ := fun _ _ => rfl)

/-- The run by its buffers: the result array is named, the arguments are unchanged, the counters are zero. -/
theorem ends : θ_run defs (onTc (τ := τ) (main (F := F))) ⟨m, fun _ => 0, ρ⟩ fun r =>
      (∀ c : Dev nD, r.2.mem ((c.tc : Thread nD τ).loc main_v0) = (dats m 0 c).arrAt 0 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c).1 0,
      (h.1 c).2 main_arg0 (Pipeline.mem_restRefs_of main_arg0 (by decide) (by decide)),
      (h.1 c).2 main_arg1 (Pipeline.mem_restRefs_of main_arg1 (by decide) (by decide))⟩, h.2⟩) (launched m ρ)

/-- The frame: the arguments are unchanged and the counters are zero. -/
theorem frame_holds : θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h.1 c).2, h.2⟩) (ends m ρ)

end Cert.KernelIdeal.Run

end
-- ==== Proof.KernelArray.lean ====
/-
  The kernel's result array, whatever it held before: entry `(n, c)` ends as the table's entry for position `n + 2` in
  column `c`, with the kernel's own literal as the frequencies' step.
-/
module

public import proofs.«01_k».proof.Proof.Block
public import proofs.«01_k».proof.Proof.IdealRun

@[expose] public section

noncomputable section

namespace Cert.KernelIdeal.Run

open Cert.KernelIdeal Cert.KernelIdeal.Gen Cert.PosTable Idealize.ShloMosaic Idealize.ShloMosaic.TcCoe Idealize.SL.Sem
open Idealize.ShloMosaic.Pipeline (Dat)

/-- The step of the frequencies' exponents: the number that the kernel's literal stands for. -/
def step : EReal := (Scalar.ofBits .f32 0xBC13826E#32 : Ideal .f32)

/-- The body's angles at an index of a block. -/
theorem angles (i : grid0.Coords) (x : S512x1024.Idx) :
    k0_pay1 (F := Ideal) i x = angle step ((i 0).val * 512 + (x 0).val + 2) (x 1).val :=
  block_angle (i 0).val (i 0).isLt iota_S512x1024_d0_w32 iota_S1x1024_d1_w32 broadcasts_S1x1024_S512x1024 step x

/-- What the body leaves in its block: the entries of the block's 512 rows. -/
theorem block (i : grid0.Coords) (y : S512x2048.Idx) :
    stored (F := Ideal) i y = entry step ((i 0).val * 512 + (y 0).val + 2) (y 1).val :=
  halves_entry step ((i 0).val * 512) (k0_pay1 (F := Ideal) i) (angles i) _ _ y (halves_cover _ _ y)

/-- The output window's block at a grid point: the point's own coordinate along the rows. -/
theorem idx_eq : ∀ t : Fin cfg0.N, win0_0.index t = ![(grid0.coords t 0).val, 0] :=
  (by decide +kernel : ∀ t : Fin grid0.N, _)

variable (m : (ℓ : Loc nD τ sig) → Buf (Elt Ideal) ℓ) (ρ : Dev nD → PrngReg)

/-- The result array after the run. -/
theorem final (c : Dev nD) :
    (dats m 0 c).arrAt 0 cfg0.N = fun i : S32768x2048.Idx => entry step ((i 0).val + 2) (i 1).val := by
  refine (dats m 0 c).arrAt_eq_of_covers 0 _ (by decide +kernel) fun t hf y => ?_
  blk_simp [idx_eq]
  rw [after_eq]
  exact block (grid0.coords t) y

/-- The run: the result array ends holding the table's entries, the arguments are unchanged. -/
theorem array_run : θ_run defs (onTc (τ := τ) (main (F := Ideal))) ⟨m, fun _ => 0, ρ⟩ fun r => ∀ c : Dev nD,
      r.2.mem ((c.tc : Thread nD τ).loc main_v0) = (fun i : S32768x2048.Idx => entry step ((i 0).val + 2) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).1.trans (final m c), (h.1 c).2⟩) (ends m ρ)

end Cert.KernelIdeal.Run

end
-- ==== Proof.NamedRun.lean ====
/-
  The launch of the kernel KernelNamed: what the body leaves in its block, the body's triple, the pipeline's proof data, and the
  run of @main. The kernel stages no argument, so its one window is the result's. The set-up follows the launch's own.
-/
module

public import proofs.«01_k».proof.Proof.Gen.KernelNamed.Launch
public import proofs.«01_k».proof.Proof.Gen.KernelNamed.Skeleton
public import proofs.«01_k».proof.Proof.Gen.KernelNamed.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelNamed.Run

open Cert.KernelNamed Cert.KernelNamed.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The left half of a block, where the sines go. -/
abbrev left : Rect S512x2048 := Rect.unit (s := S512x2048) ![0, 0] S512x1024.size inb_S512x2048_S512x1024_0_0

/-- The right half of a block, where the cosines go. -/
abbrev right : Rect S512x2048 := Rect.unit (s := S512x2048) ![0, 1024] S512x1024.size inb_S512x2048_S512x1024_0_1024

/-- The block after the body at grid point `i`: its two stores, the later one first. -/
def stored (i : grid0.Coords) : Vec F S512x2048 .f32 :=
  View.canon [⟨right, k0_pay3 (F := F) i⟩, ⟨left, k0_pay2 (F := F) i⟩]

/-- The two halves are the whole block. -/
theorem halves_cover (p q : Vec F S512x1024 .f32) (y : S512x2048.Idx) :
    ∃ pc ∈ ([⟨right, p⟩, ⟨left, q⟩] : List (View.Piece (Elt F) S512x2048 .f32)), y ∈ pc.1.set :=
  View.cover_of_tiled [⟨right, p⟩, ⟨left, q⟩] S512x1024.size (by rfl) y

set_option maxHeartbeats 1000000 in
/-- The body, given its block with anything in it, leaves the block at `stored`. -/
theorem body_triple (c : Dev nD) (E : Set ℕ) (i : grid0.Coords) (arg1 : Memref sig .tc .vmem S512x2048 .f32)
    (harg1 : arg1.IsWhole) (K : PUnit → sProp 𝕄) :
    iprop((∃ d, owns (c : Thread nD τ) arg1 fullShare d)
        ∗ (iprop(owns (c : Thread nD τ) arg1 fullShare (stored i)) -∗ K ⟨⟩))
      ⊢ wp frame (wpE (defs₀ (F := F)) Variants.none c none) E (cc0__sincos_block i arg1 harg1) K := by
  simp only [cc0__sincos_block_eq_skeleton]; unfold cc0__sincos_block_skel
  unfold owns
  iintro ⟨⟨%d0, %f0, -, H0⟩, Hk⟩
  sl_exec
  sl_step
  iapply Hk
  iexists _; isplitr
  swap; · iexact H0
  ipureintro
  exact View.read_writes_eq_canon _ _ _ (halves_cover _ _)

/-- The pipeline's proof data on core `c`: the result array as launched, and its block after the body at `stored`. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => stored (grid0.coords t)
  Φ _ := Pipeline.ΦA spec0 c
  q _ := fullShare
  owed _ := 0

/-- What the body leaves in the result's window. -/
theorem after_eq (c : Dev nD) (t : Fin cfg0.N) : (dats m 0 c).after 0 t = stored (grid0.coords t) := by
  dsimp only [dats]

/-- What the body is called with at point `t`. -/
def before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- What the body returns at point `t`. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The body at any point of the grid. -/
theorem body_at (c : Dev nD) (t : Fin cfg0.N) :
    before m c t ⊢ wp frame (wpE (defs₀ (F := F)) Variants.none c none) Set.univ (bodyAt0 t) (fun _ => returned m c t) := by
  unfold before returned bodyAt0
  rw [show (dats m 0 c).Φ t.succ = (dats m 0 c).Φ t.castSucc from rfl,
    show (dats m 0 c).owesAt () t.succ = (dats m 0 c).owesAt () t.castSucc from rfl,
    after_eq]
  iintro ⟨HΦ, Ho, ⟨%d0, H0⟩⟩
  iapply (body_triple c Set.univ (grid0.coords t) _ _ _)
  isplitl [H0]; · iexists _; iexact H0
  iintro ⟨H0⟩
  isplitl [HΦ]; · iexact HΦ
  isplitl [Ho]; · iexact Ho
  iexact H0

/-- The pipeline calls the body at point `t` with the staging buffer of that point. -/
theorem called_at (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, called_at]
  exact triple_restated (body_at m c t) rfl .rfl fun _ => .rfl

set_option maxHeartbeats 800000 in
/-- @main is the pipeline's region alone. -/
theorem main_region (𝒱₀ : Variants) : Pipeline.HMain (Ix := Unit) (Name := ℕ) (U := UR sig nD τ) (Lvl := ℕ) cfgs 0 defs₀ 𝒱₀ m
    (main (F := F)) (fun c b => m ((c : Thread nD τ).loc b)) :=
  Pipeline.hmain_region cfgs 0 defs₀ 𝒱₀ m main fun c => (main_chain c).trans rfl

set_option backward.isDefEq.respectTransparency.types false in
set_option maxHeartbeats 800000 in
/-- Every run of @main ends, with the result array as the proof data computes it, every other buffer as launched, and
    every semaphore counter at zero. -/
theorem launched : θ_run defs (onTc (τ := τ) (main (F := F))) (s₀ m ρ)
    (fun r => (Pipeline.FramePost cfgs (dats m) 0 fun c b => m ((c : Thread nD τ).loc b)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := fun c b => m ((c : Thread nD τ).loc b)) (hmain := main_region m Variants.none)
    (hA := fun c w => by dsimp only [dats]) (hΦ := fun _ _ => rfl)

/-- The run by its buffers: the result array is named, the arguments are unchanged, the counters are zero. -/
theorem ends : θ_run defs (onTc (τ := τ) (main (F := F))) ⟨m, fun _ => 0, ρ⟩ fun r =>
      (∀ c : Dev nD, r.2.mem ((c.tc : Thread nD τ).loc main_v0) = (dats m 0 c).arrAt 0 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c).1 0,
      (h.1 c).2 main_arg0 (Pipeline.mem_restRefs_of main_arg0 (by decide) (by decide)),
      (h.1 c).2 main_arg1 (Pipeline.mem_restRefs_of main_arg1 (by decide) (by decide))⟩, h.2⟩) (launched m ρ)

/-- The frame: the arguments are unchanged and the counters are zero. -/
theorem frame_holds : θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h.1 c).2, h.2⟩) (ends m ρ)

end Cert.KernelNamed.Run

end
-- ==== Proof.NamedArray.lean ====
/-
  The kernel's result array, whatever it held before: entry `(n, c)` ends as the table's entry for position `n + 2` in
  column `c`, with the real number that the kernel's literal is named for as the frequencies' step.
-/
module

public import proofs.«01_k».proof.Proof.Block
public import proofs.«01_k».proof.Proof.NamedRun
public import Idealize.ShloMosaic.PureOps.IdealRules

@[expose] public section

noncomputable section

namespace Cert.KernelNamed.Run

open Cert.KernelNamed Cert.KernelNamed.Gen Cert.PosTable Idealize.ShloMosaic Idealize.ShloMosaic.TcCoe Idealize.SL.Sem
open Idealize.ShloMosaic.Pipeline (Dat)

/-- The step of the frequencies' exponents: the real number that the kernel's literal is named for. -/
def step : EReal := ((-((Real.log 10000) * 1023⁻¹) : ℝ) : EReal)

/-- The named literal is that number. -/
theorem named_step : (Named.named κ "neg_scale" 0xBC13826E#32 : Ideal .f32) = step :=
  IdealRules.named_const.ideal_named_scalar _ _ _ _ rfl

/-- The body's angles at an index of a block. -/
theorem angles (i : grid0.Coords) (x : S512x1024.Idx) :
    k0_pay1 (F := Ideal) i x = angle step ((i 0).val * 512 + (x 0).val + 2) (x 1).val :=
  (block_angle (i 0).val (i 0).isLt iota_S512x1024_d0_w32 iota_S1x1024_d1_w32 broadcasts_S1x1024_S512x1024
    (Named.named κ "neg_scale" 0xBC13826E#32) x).trans (congrArg (fun s => angle s _ _) named_step)

/-- What the body leaves in its block: the entries of the block's 512 rows. -/
theorem block (i : grid0.Coords) (y : S512x2048.Idx) :
    stored (F := Ideal) i y = entry step ((i 0).val * 512 + (y 0).val + 2) (y 1).val :=
  halves_entry step ((i 0).val * 512) (k0_pay1 (F := Ideal) i) (angles i) _ _ y (halves_cover _ _ y)

/-- The output window's block at a grid point: the point's own coordinate along the rows. -/
theorem idx_eq : ∀ t : Fin cfg0.N, win0_0.index t = ![(grid0.coords t 0).val, 0] :=
  (by decide +kernel : ∀ t : Fin grid0.N, _)

variable (m : (ℓ : Loc nD τ sig) → Buf (Elt Ideal) ℓ) (ρ : Dev nD → PrngReg)

/-- The result array after the run. -/
theorem final (c : Dev nD) :
    (dats m 0 c).arrAt 0 cfg0.N = fun i : S32768x2048.Idx => entry step ((i 0).val + 2) (i 1).val := by
  refine (dats m 0 c).arrAt_eq_of_covers 0 _ (by decide +kernel) fun t hf y => ?_
  blk_simp [idx_eq]
  rw [after_eq]
  exact block (grid0.coords t) y

/-- The run: the result array ends holding the table's entries, the arguments are unchanged. -/
theorem array_run : θ_run defs (onTc (τ := τ) (main (F := Ideal))) ⟨m, fun _ => 0, ρ⟩ fun r => ∀ c : Dev nD,
      r.2.mem ((c.tc : Thread nD τ).loc main_v0) = (fun i : S32768x2048.Idx => entry step ((i 0).val + 2) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).1.trans (final m c), (h.1 c).2⟩) (ends m ρ)

end Cert.KernelNamed.Run

end
-- ==== Proof.Take.lean ====
/-
  `jnp.take(table, 2 + arange(32768), axis=0)` as it prints, read at an entry: no index is negative, so the wrap leaves
  it; every index lies inside the table, so the mask keeps every row; and row `n` of the result is row `n + 2` of the table.
-/
module

public import Idealize.ShloMosaic.PureOps
public import Idealize.ShloMosaic.Lib.Pipeline.Value
public import Idealize.ShloMosaic.Lib.IdealHost
public import Idealize.ShloMosaic.Lib.ReduceAll
public import Idealize.ShloMosaic.Lib.Routing.Ops
public import Idealize.ShloMosaic.Lib.Routing.OpsPair
public import Idealize.ShloMosaic.Lib.WordCmp

@[expose] public section

noncomputable section

namespace Cert.PosTable

open Idealize.ShloMosaic Idealize.ShloMosaic.ValueIdx

/-- A vector made the one column of a matrix reads at `(n, 0)` as the vector at `n`. -/
theorem column_apply {α : Type} {N : ℕ} (h : (⟨1, ![N]⟩ : Shape).BroadcastsInDim ⟨2, ![N, 1]⟩ ![0])
    (x : (⟨1, ![N]⟩ : Shape).Idx → α) (n : Fin N) (z : Fin 1) :
    broadcastInDim ⟨2, ![N, 1]⟩ ![0] h x (ix2 n z) = x (ix1 n) := by
  refine broadcastInDim_apply _ _ _ _ _ fun a => ?_
  match a with
  | ⟨0, _⟩ =>
    show n.val = if N = 1 then 0 else n.val
    split
    · have := n.isLt; omega
    · rfl

/-- A vector with one entry per row, repeated along the rows of a matrix, reads at `(n, c)` as the vector at `n`. -/
theorem rows_apply {α : Type} {N C : ℕ} (h : (⟨1, ![N]⟩ : Shape).BroadcastsInDim ⟨2, ![N, C]⟩ ![0])
    (x : (⟨1, ![N]⟩ : Shape).Idx → α) (n : Fin N) (c : Fin C) :
    broadcastInDim ⟨2, ![N, C]⟩ ![0] h x (ix2 n c) = x (ix1 n) := by
  refine broadcastInDim_apply _ _ _ _ _ fun a => ?_
  match a with
  | ⟨0, _⟩ =>
    show n.val = if N = 1 then 0 else n.val
    split
    · have := n.isLt; omega
    · rfl

/-- The index of row `n`: two more than `n`, which jnp's wrap of negative indices leaves as it is. -/
theorem index_word (n : ℕ) (hn : n < 32768) :
    Scalar.select (IntOp.cmpi .slt (2#32 + BitVec.ofNat 32 n) 0#32) (2#32 + BitVec.ofNat 32 n + 32770#32) (2#32 + BitVec.ofNat 32 n)
      = BitVec.ofNat 32 (n + 2) := by
  have e : 2#32 + BitVec.ofNat 32 n = BitVec.ofNat 32 (n + 2) := by
    rw [← BitVec.ofNat_add]
    exact congrArg (BitVec.ofNat 32) (by omega)
  rw [e]
  refine Routing.wrap_of_lt _ _ ?_
  rw [BitVec.toNat_ofNat]
  omega

/-- The test of the bounds at an index `n + 2` with `n` below 32768: it lies from 0 to 32769. -/
theorem index_in_bounds (n : ℕ) (hn : n < 32768) :
    IntOp.andi (IntOp.cmpi .sge (BitVec.ofNat 32 (n + 2)) 0#32) (IntOp.cmpi .sle (BitVec.ofNat 32 (n + 2)) 32769#32) = 1#1 := by
  rw [WordCmp.cmpi_sge_ofNat (by omega) (by omega), WordCmp.cmpi_sle_ofNat (by omega) (by omega), WordCmp.andi_ofBool,
    decide_eq_true (by omega), decide_eq_true (by omega)]
  rfl

/-- The column of indices as it prints, from the constant 2, the row count, the wrap's zero and the table's height. -/
theorem index_apply (h0 : (⟨0, ![]⟩ : Shape).BroadcastsInDim ⟨1, ![32768]⟩ ![])
    (h1 : (⟨1, ![32768]⟩ : Shape).BroadcastsInDim ⟨2, ![32768, 1]⟩ ![0]) (j : (⟨2, ![32768, 1]⟩ : Shape).Idx) :
    broadcastInDim ⟨2, ![32768, 1]⟩ ![0] h1
      (select
        (cmpi .slt (addi (broadcastInDim ⟨1, ![32768]⟩ ![] h0 (constantI ⟨0, ![]⟩ 32 2#32)) (iotaInDim ⟨1, ![32768]⟩ 32 0))
          (broadcastInDim ⟨1, ![32768]⟩ ![] h0 (constantI ⟨0, ![]⟩ 32 0#32)))
        (addi (addi (broadcastInDim ⟨1, ![32768]⟩ ![] h0 (constantI ⟨0, ![]⟩ 32 2#32)) (iotaInDim ⟨1, ![32768]⟩ 32 0))
          (broadcastInDim ⟨1, ![32768]⟩ ![] h0 (constantI ⟨0, ![]⟩ 32 32770#32)))
        (addi (broadcastInDim ⟨1, ![32768]⟩ ![] h0 (constantI ⟨0, ![]⟩ 32 2#32)) (iotaInDim ⟨1, ![32768]⟩ 32 0))) j
      = BitVec.ofNat 32 ((j 0).val + 2) := by
  obtain ⟨n, z, rfl⟩ : ∃ (n : Fin 32768) (z : Fin 1), j = ix2 n z := ⟨j 0, j 1, eq_ix2 j⟩
  rw [column_apply]
  exact index_word n.val n.isLt

/-- A select read at an index selects there. -/
theorem select_entry {s : Shape} {α : Type} (b : IVec s 1) (x y : s.Idx → α) (i : s.Idx) :
    select b x y i = Scalar.select (b i) (x i) (y i) := rfl

/-- The take of the rows that `I` names, behind the mask of its bounds, where `I` names row `n + 2` at `n`: entry `(n, c)` of
    the result is the table's entry `(n + 2, c)`. -/
theorem take_apply {α : Type} (d : GatherDims ⟨2, ![32770, 2048]⟩ ⟨2, ![32768, 1]⟩ ⟨2, ![32768, 2048]⟩)
    (hoff : d.offsetDims = [1]) (hcoll : d.collapsedSliceDims = [0]) (hob : d.operandBatchingDims = [])
    (hsim : d.startIndexMap = [0]) (hivd : d.indexVectorDim = 1)
    (hm : (⟨1, ![32768]⟩ : Shape).BroadcastsInDim ⟨2, ![32768, 2048]⟩ ![0])
    (hr : (⟨2, ![32768, 1]⟩ : Shape).ReducesTo [1] ⟨1, ![32768]⟩) (hu : 0 < (⟨0, ![]⟩ : Shape).numel)
    (I lo hi : IVec ⟨2, ![32768, 1]⟩ 32) (hI : ∀ j, I j = BitVec.ofNat 32 ((j 0).val + 2)) (hlo : ∀ j, lo j = 0#32)
    (hhi : ∀ j, hi j = 32769#32) (W : (⟨2, ![32770, 2048]⟩ : Shape).Idx → α) (fill : (⟨2, ![32768, 2048]⟩ : Shape).Idx → α)
    (n : Fin 32768) (c : Fin 2048) :
    select (broadcastInDim ⟨2, ![32768, 2048]⟩ ![0] hm
        (Host.reduce IntOp.andi (andi (cmpi .sge I lo) (cmpi .sle I hi)) (constantI ⟨0, ![]⟩ 1 1#1) hr hu))
      (Host.gather d W I) fill (ix2 n c)
      = W (ix2 (⟨n.val + 2, by omega⟩ : Fin 32770) c) := by
  rw [select_entry, rows_apply, Host.reduce_andi_one _ _ _ _ _ rfl fun i => ?_]
  · exact Routing.gather_row d hoff hcoll hob hsim hivd W I n c ⟨n.val + 2, by omega⟩ (hI _) (by omega)
  · show IntOp.andi (IntOp.cmpi .sge (I i) (lo i)) (IntOp.cmpi .sle (I i) (hi i)) = 1#1
    rw [hI, hlo, hhi]
    exact index_in_bounds _ (idx2_lt0 i)

end Cert.PosTable

end
-- ==== Proof.Table.lean ====
/-
  The sinusoidal table as the host builds it, read at an entry: the outer product of the positions and the frequencies,
  its sines beside its cosines, with row 1 set to zero. Every row but row 1 holds `entry`.
-/
module

public import proofs.«01_k».proof.Proof.Entry
public import proofs.«01_k».proof.Proof.Take
public import Idealize.ShloMosaic.Lib.Routing.OpsSet

@[expose] public section

noncomputable section

namespace Cert.PosTable

open Idealize.ShloMosaic Idealize.ShloMosaic.ValueIdx

/-- A vector made the one row of a matrix reads at `(0, c)` as the vector at `c`. -/
theorem row_apply {α : Type} {C : ℕ} (h : (⟨1, ![C]⟩ : Shape).BroadcastsInDim ⟨2, ![1, C]⟩ ![1])
    (x : (⟨1, ![C]⟩ : Shape).Idx → α) (z : Fin 1) (c : Fin C) :
    broadcastInDim ⟨2, ![1, C]⟩ ![1] h x (ix2 z c) = x (ix1 c) := by
  refine broadcastInDim_apply _ _ _ _ _ fun a => ?_
  match a with
  | ⟨0, _⟩ =>
    show c.val = if C = 1 then 0 else c.val
    split
    · have := c.isLt; omega
    · rfl

/-- A matrix of one column, repeated along the rows, reads at `(r, c)` as the column at `r`. -/
theorem column_rows_apply {α : Type} {N C : ℕ} (h : (⟨2, ![N, 1]⟩ : Shape).BroadcastsInDim ⟨2, ![N, C]⟩ ![0, 1])
    (x : (⟨2, ![N, 1]⟩ : Shape).Idx → α) (r : Fin N) (c : Fin C) :
    broadcastInDim ⟨2, ![N, C]⟩ ![0, 1] h x (ix2 r c) = x (ix2 r (0 : Fin 1)) := by
  refine broadcastInDim_apply _ _ _ _ _ fun a => ?_
  match a with
  | ⟨0, _⟩ =>
    show r.val = if N = 1 then 0 else r.val
    split
    · have := r.isLt; omega
    · rfl
  | ⟨1, _⟩ => rfl

/-- A matrix of one row, repeated down the columns, reads at `(r, c)` as the row at `c`. -/
theorem row_columns_apply {α : Type} {N C : ℕ} (h : (⟨2, ![1, C]⟩ : Shape).BroadcastsInDim ⟨2, ![N, C]⟩ ![0, 1])
    (x : (⟨2, ![1, C]⟩ : Shape).Idx → α) (r : Fin N) (c : Fin C) :
    broadcastInDim ⟨2, ![N, C]⟩ ![0, 1] h x (ix2 r c) = x (ix2 (0 : Fin 1) c) := by
  refine broadcastInDim_apply _ _ _ _ _ fun a => ?_
  match a with
  | ⟨0, _⟩ => rfl
  | ⟨1, _⟩ =>
    show c.val = if C = 1 then 0 else c.val
    split
    · have := c.isLt; omega
    · rfl

/-- Two matrices of 1024 columns side by side, read in the first 1024 columns: the left one. -/
theorem halves_left {α : Type} {N : ℕ} (x y : (⟨2, ![N, 1024]⟩ : Shape).Idx → α)
    (h : Shape.Concatenates [⟨2, ![N, 1024]⟩, ⟨2, ![N, 1024]⟩] ⟨2, ![N, 2048]⟩ 1) (r : Fin N) (c : Fin 2048) (k : Fin 1024)
    (hk : k.val = c.val) :
    concatenate ⟨2, ![N, 2048]⟩ 1 [⟨⟨2, ![N, 1024]⟩, x⟩, ⟨⟨2, ![N, 1024]⟩, y⟩] h (ix2 r c) = x (ix2 r k) :=
  concatenate_pair_apply_left (t := ⟨2, ![N, 2048]⟩) (s₁ := ⟨2, ![N, 1024]⟩) (s₂ := ⟨2, ![N, 1024]⟩) 1 x y h (ix2 r c) rfl (ix2 r k) fun b =>
    match b with
    | ⟨0, _⟩ => rfl
    | ⟨1, _⟩ => hk

/-- The same read in the last 1024 columns: the right one. -/
theorem halves_right {α : Type} {N : ℕ} (x y : (⟨2, ![N, 1024]⟩ : Shape).Idx → α)
    (h : Shape.Concatenates [⟨2, ![N, 1024]⟩, ⟨2, ![N, 1024]⟩] ⟨2, ![N, 2048]⟩ 1) (r : Fin N) (c : Fin 2048) (k : Fin 1024)
    (hk : k.val + 1024 = c.val) :
    concatenate ⟨2, ![N, 2048]⟩ 1 [⟨⟨2, ![N, 1024]⟩, x⟩, ⟨⟨2, ![N, 1024]⟩, y⟩] h (ix2 r c) = y (ix2 r k) :=
  concatenate_pair_apply_right (t := ⟨2, ![N, 2048]⟩) (s₁ := ⟨2, ![N, 1024]⟩) (s₂ := ⟨2, ![N, 1024]⟩) 1 x y h (ix2 r c) rfl rfl (ix2 r k)
    (fun b hb => match b, hb with
      | ⟨0, _⟩, _ => rfl
      | ⟨1, _⟩, hb => (hb rfl).elim) hk

/-- `x.at[i, :].set(v)` for one index word `i`, read in a row that is not row `i`: the row is as it was. -/
theorem set_row_other {α : Type} {N C w : ℕ} (d : ScatterDims ⟨2, ![N, C]⟩ ⟨1, ![1]⟩ ⟨1, ![C]⟩) (hiw : d.insertedWindowDims = [0])
    (hsd : d.scatterDimsToOperandDims = [0]) (hivd : d.indexVectorDim = 0) (x : (⟨2, ![N, C]⟩ : Shape).Idx → α)
    (idx : IVec ⟨1, ![1]⟩ w) (v : (⟨1, ![C]⟩ : Shape).Idx → α) (r : Fin N) (c : Fin C)
    (hne : ∀ z, (idx z).toInt ≠ (r.val : ℤ)) :
    Host.scatter d (fun _ b => b) x idx v (ix2 r c) = x (ix2 r c) := by
  refine Routing.scatter_set_miss d x idx v _ fun k hk => ?_
  have h0 := (Routing.resultIdx?_eq_some d k idx (ix2 r c)).1 hk 0
  have hw : d.window k 0 = 0 := by
    unfold ScatterDims.window
    rw [dif_neg fun h => (of_decide_eq_true (List.mem_filter.1 h).2) (by rw [hiw]; exact List.mem_singleton.2 rfl)]
  have hm : (0 : Fin 2) ∈ d.scatterDimsToOperandDims := by rw [hsd]; exact List.mem_singleton.2 rfl
  rw [hw] at h0
  unfold ScatterDims.start at h0
  rw [dif_pos hm] at h0
  rw [Nat.cast_zero, add_zero] at h0
  exact hne _ h0

/-- A product read at an index is the product of the entries there. -/
theorem mulf_entry {s : Shape} (x y : FVec Ideal s .f32) (i : s.Idx) : mulf x y i = ((x i : EReal) * (y i : EReal) : EReal) := rfl

/-- The outer product of the positions and the frequencies at `(r, k)`: the angle of position `r` at frequency `k`, the
    frequencies' exponents being the multiples of `s`. -/
theorem angles_apply {N K : ℕ} (hN : N < 2 ^ 31) (hK : K < 2 ^ 31)
    (hc : (⟨1, ![N]⟩ : Shape).BroadcastsInDim ⟨2, ![N, 1]⟩ ![0])
    (hcr : (⟨2, ![N, 1]⟩ : Shape).BroadcastsInDim ⟨2, ![N, K]⟩ ![0, 1])
    (hr : (⟨1, ![K]⟩ : Shape).BroadcastsInDim ⟨2, ![1, K]⟩ ![1])
    (hrc : (⟨2, ![1, K]⟩ : Shape).BroadcastsInDim ⟨2, ![N, K]⟩ ![0, 1])
    (hs : (⟨0, ![]⟩ : Shape).BroadcastsInDim ⟨1, ![K]⟩ ![]) (S : FVec Ideal ⟨0, ![]⟩ .f32) (r : Fin N) (k : Fin K) :
    (mulf
        (broadcastInDim ⟨2, ![N, K]⟩ ![0, 1] hcr (broadcastInDim ⟨2, ![N, 1]⟩ ![0] hc
          (sitofp .f32 (iotaInDim ⟨1, ![N]⟩ 32 0) : FVec Ideal ⟨1, ![N]⟩ .f32)))
        (broadcastInDim ⟨2, ![N, K]⟩ ![0, 1] hrc (broadcastInDim ⟨2, ![1, K]⟩ ![1] hr
          (Host.exp (mulf (sitofp .f32 (iotaInDim ⟨1, ![K]⟩ 32 0) : FVec Ideal ⟨1, ![K]⟩ .f32)
            (broadcastInDim ⟨1, ![K]⟩ ![] hs S))))) : FVec Ideal ⟨2, ![N, K]⟩ .f32) (ix2 r k)
      = angle (S ix0) r.val k.val := by
  rw [mulf_entry, column_rows_apply, row_columns_apply, column_apply, row_apply]
  show (FloatOps.sitofp .f32 (BitVec.ofNat 32 r.val) : Ideal .f32)
    * Ideal.exp ((FloatOps.sitofp .f32 (BitVec.ofNat 32 k.val) : Ideal .f32) * broadcastInDim ⟨1, ![K]⟩ ![] hs S (ix1 k)) = _
  rw [broadcastInDim_scalar_apply, sitofp_count (by omega), sitofp_count (by omega)]
  rfl

/-- THE TABLE AT AN ENTRY: where the matrix `A` holds the angles, the table of its sines beside its cosines, row 1 set
    to `v`, holds `entry s r` in every row `r` but row 1. -/
theorem table_apply {N : ℕ} (d : ScatterDims ⟨2, ![N, 2048]⟩ ⟨1, ![1]⟩ ⟨1, ![2048]⟩) (hiw : d.insertedWindowDims = [0])
    (hsd : d.scatterDimsToOperandDims = [0]) (hivd : d.indexVectorDim = 0)
    (hcat : Shape.Concatenates [⟨2, ![N, 1024]⟩, ⟨2, ![N, 1024]⟩] ⟨2, ![N, 2048]⟩ 1)
    (A : FVec Ideal ⟨2, ![N, 1024]⟩ .f32) (s : EReal) (hA : ∀ (r : Fin N) (k : Fin 1024), A (ix2 r k) = angle s r.val k.val)
    (idx : IVec ⟨1, ![1]⟩ 32) (hidx : ∀ z, idx z = 1#32) (v : FVec Ideal ⟨1, ![2048]⟩ .f32)
    (r : Fin N) (c : Fin 2048) (h : r.val ≠ 1) :
    Host.scatter d (fun _ b => b)
      (concatenate ⟨2, ![N, 2048]⟩ 1 [⟨⟨2, ![N, 1024]⟩, Host.sin A⟩, ⟨⟨2, ![N, 1024]⟩, Host.cos A⟩] hcat) idx v (ix2 r c)
      = entry s r.val c.val := by
  rw [set_row_other d hiw hsd hivd _ _ _ r c fun z hz => h (by
    rw [hidx z] at hz
    have e1 : (1#32 : BitVec 32).toInt = 1 := by decide
    omega)]
  by_cases hk : c.val < 1024
  · rw [halves_left _ _ hcat r c ⟨c.val, hk⟩ rfl, entry_sin s hk, ← hA r ⟨c.val, hk⟩]
    rfl
  · have e : entry s r.val c.val = Ideal.cos (angle s r.val (c.val - 1024)) := if_neg hk
    have hk' : c.val - 1024 < 1024 := by omega
    have e' : c.val - 1024 + 1024 = c.val := by omega
    rw [halves_right _ _ hcat r c ⟨c.val - 1024, hk'⟩ e', e, ← hA r ⟨c.val - 1024, hk'⟩]
    rfl

end Cert.PosTable

end
-- ==== Proof.ReferenceRows.lean ====
/-
  The reference's result: entry `(n, c)` is the weights' entry `(n + 2, c)`. And what the precondition says of the weights:
  every row but row 1 holds the table's entries, with the literal as the frequencies' step.
-/
module

public import proofs.«01_k».proof.Proof.Table
public import proofs.«01_k».proof.Proof.Gen.ReferenceIdeal.Run
public import proofs.«01_k».proof.Proof.Gen.Pre_weights_are_the_table

@[expose] public section

noncomputable section

namespace Cert.PosTable

open Idealize.ShloMosaic Idealize.ShloMosaic.TcCoe Idealize.ShloMosaic.ValueIdx Idealize.SL.Sem

/-- The reference's run: the result holds the weights' rows 2 to 32769, the arguments are unchanged. -/
theorem reference_rows (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
      (∀ (n : Fin 32768) (k : Fin 2048),
        r.2.mem ((c.tc : Thread Cert.ReferenceIdeal.nD Cert.ReferenceIdeal.τ).loc Cert.ReferenceIdeal.main_v3) (ix2 n k)
          = m ((c.tc : Thread Cert.ReferenceIdeal.nD Cert.ReferenceIdeal.τ).loc Cert.ReferenceIdeal.main_arg1)
              (ix2 (⟨n.val + 2, by omega⟩ : Fin 32770) k))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono (fun _ h c => ⟨fun n k => (congrFun (h c).1 (ix2 n k)).trans
      (take_apply _ rfl rfl rfl rfl rfl _ _ _ _ _ _ (index_apply _ _) (fun _ => rfl) (fun _ => rfl) _ _ n k), (h c).2⟩)
    (Cert.ReferenceIdeal.Value.run (F := Ideal) m ρ)

/-- Where a comparison for equality gives one, the two extended reals are equal. -/
theorem eq_of_oeq {s : Shape} (x y : FVec Ideal s .f32) (i : s.Idx) (h : cmpf .oeq x y i = 1#1) : x i = y i := by
  have h' : BitVec.ofBool (decide ((x i : EReal) = y i)) = 1#1 := h
  by_contra hne
  have hf : decide ((x i : EReal) = y i) = false := decide_eq_false hne
  rw [hf] at h'
  exact absurd h' (by decide)

/-- The weights that the precondition admits, read in any row but row 1. -/
theorem weights_entry (x : IVec ⟨1, ![32768]⟩ 32) (W : FVec Ideal ⟨2, ![32770, 2048]⟩ .f32)
    (h : Cert.Pre_weights_are_the_table.fn (F := Ideal) x W = fun _ => 1#1) (r : Fin 32770) (k : Fin 2048) (hr : r.val ≠ 1) :
    W (ix2 r k) = entry (Scalar.ofBits .f32 0xBC13826E#32 : Ideal .f32) r.val k.val :=
  (eq_of_oeq W _ (ix2 r k) (congrFun h (ix2 r k))).trans
    (table_apply _ rfl rfl rfl _ _ _ (angles_apply (by norm_num) (by norm_num) _ _ _ _ _ _) _ (fun _ => rfl) _ r k hr)

end Cert.PosTable

end
-- ==== Proof.SinusoidRows.lean ====
/-
  The second reference: the table is built from its definition, its frequencies' step computed as minus the logarithm of
  10000 over 1023, and rows 2 to 32769 are taken. Entry `(n, c)` of the result is the table's entry for row `n + 2`.
-/
module

public import proofs.«01_k».proof.Proof.Table
public import proofs.«01_k».proof.Proof.Gen.SinusoidIdeal.Run

@[expose] public section

noncomputable section

namespace Cert.PosTable

open Idealize.ShloMosaic Idealize.ShloMosaic.TcCoe Idealize.ShloMosaic.ValueIdx Idealize.SL.Sem

/-- The bits of ten thousand. -/
theorem bits_ten_thousand : (Scalar.ofBits .f32 0x461C4000#32 : Ideal .f32) = ((10000 : ℝ) : EReal) := by
  show Ideal.ofBits .f32 0x461C4000#32 = _
  simp [Ideal.ofBits, Ideal.ieee, -EReal.coe_mul]
  norm_num

/-- The bits of 1023. -/
theorem bits_1023 : (Scalar.ofBits .f32 0x447FC000#32 : Ideal .f32) = ((1023 : ℝ) : EReal) := by
  show Ideal.ofBits .f32 0x447FC000#32 = _
  simp [Ideal.ofBits, Ideal.ieee, -EReal.coe_mul]
  norm_num

/-- The step as the second reference computes it is the real number `-(log 10000 · 1023⁻¹)`. -/
theorem step_real :
    (Host.negf (Host.divf (Host.log (constant ⟨0, ![]⟩ .f32 0x461C4000#32)) (constant ⟨0, ![]⟩ .f32 0x447FC000#32))
      : FVec Ideal ⟨0, ![]⟩ .f32) ix0 = ((-((Real.log 10000) * 1023⁻¹) : ℝ) : EReal) := by
  show -(Ideal.div (Ideal.log (Scalar.ofBits .f32 0x461C4000#32 : Ideal .f32)) (Scalar.ofBits .f32 0x447FC000#32 : Ideal .f32)) = _
  rw [bits_ten_thousand, bits_1023, Ideal.log_coe, if_neg (by norm_num), Ideal.div_coe (by norm_num), ← EReal.coe_mul,
    ← EReal.coe_neg, one_div]

/-- The second reference's run: the result holds the table's entries, the arguments are unchanged. -/
theorem sinusoid_rows (m : (ℓ : Loc Cert.SinusoidIdeal.nD Cert.SinusoidIdeal.τ Cert.SinusoidIdeal.sig) → Buf (Elt Ideal) ℓ)
    (ρ : Dev Cert.SinusoidIdeal.nD → PrngReg) :
    θ_run Cert.SinusoidIdeal.defs (onTc (τ := Cert.SinusoidIdeal.τ) (Cert.SinusoidIdeal.main (F := Ideal))) ⟨m, fun _ => 0, ρ⟩ fun r =>
      ∀ c : Dev Cert.SinusoidIdeal.nD,
      (∀ (n : Fin 32768) (k : Fin 2048),
        r.2.mem ((c.tc : Thread Cert.SinusoidIdeal.nD Cert.SinusoidIdeal.τ).loc Cert.SinusoidIdeal.main_v22) (ix2 n k)
          = entry ((-((Real.log 10000) * 1023⁻¹) : ℝ) : EReal) (n.val + 2) k.val)
      ∧ r.2.mem ((c.tc : Thread Cert.SinusoidIdeal.nD Cert.SinusoidIdeal.τ).loc Cert.SinusoidIdeal.main_arg0)
          = m ((c.tc : Thread Cert.SinusoidIdeal.nD Cert.SinusoidIdeal.τ).loc Cert.SinusoidIdeal.main_arg0)
      ∧ r.2.mem ((c.tc : Thread Cert.SinusoidIdeal.nD Cert.SinusoidIdeal.τ).loc Cert.SinusoidIdeal.main_arg1)
          = m ((c.tc : Thread Cert.SinusoidIdeal.nD Cert.SinusoidIdeal.τ).loc Cert.SinusoidIdeal.main_arg1) :=
  (θ_run Cert.SinusoidIdeal.defs _ _).mono (fun _ h c => ⟨fun n k => (congrFun (h c).1 (ix2 n k)).trans
      ((take_apply _ rfl rfl rfl rfl rfl _ _ _ _ _ _ (index_apply _ _) (fun _ => rfl) (fun _ => rfl) _ _ n k).trans
        ((table_apply _ rfl rfl rfl _ _ _ (angles_apply (by norm_num) (by norm_num) _ _ _ _ _ _) _ (fun _ => rfl) _
          (⟨n.val + 2, by omega⟩ : Fin 32770) k (by show n.val + 2 ≠ 1; omega)).trans (congrArg (fun s => entry s (n.val + 2) k.val) step_real))), (h c).2⟩)
    (Cert.SinusoidIdeal.Value.run (F := Ideal) m ρ)

end Cert.PosTable

end
-- ==== Proof.lean ====
module

public import proofs.«01_k».proof.Defs
public import proofs.«01_k».proof.Proof.Gen.Kernel
public import proofs.«01_k».proof.Proof.KernelRun
public import proofs.«01_k».proof.Proof.KernelArray
public import proofs.«01_k».proof.Proof.NamedArray
public import proofs.«01_k».proof.Proof.ReferenceRows
public import proofs.«01_k».proof.Proof.SinusoidRows
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem Cert.PosTable

/-- The reference ends with its arguments unchanged and every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (reference_rows m ρ)

/-- The second reference ends with its arguments unchanged and every counter at zero. -/
theorem sinusoid_frame : Cert.quiescent_SinusoidIdeal (hSinusoidIdeal := Cert.SinusoidIdeal.Gen.facts) := fun m ρ _ =>
  (θ_run Cert.SinusoidIdeal.defs _ _).mono (fun r h => ⟨fun c => (h c).2, sem_eq_zero_of_no_sems (by decide) r.2⟩)
    (sinusoid_rows m ρ)

/-- The kernel against the rows taken from the weights, the weights being the table. -/
theorem rows_of_the_table : Cert.algebraic_KernelIdeal_ReferenceIdeal_pre_weights_are_the_table
    (hKernelIdeal := Cert.KernelIdeal.Gen.facts) (hReferenceIdeal := Cert.ReferenceIdeal.Gen.facts)
    (hPre_weights_are_the_table := Cert.Pre_weights_are_the_table.Gen.facts) := by
  intro m ρ m' ρ' hpre hagree
  refine ⟨_, Cert.KernelIdeal.Run.array_run m ρ, ?_⟩
  refine (θ_run Cert.ReferenceIdeal.defs _ _).mono (fun _ h c => ⟨?_, (h c).2⟩) (reference_rows m' ρ')
  funext i
  obtain ⟨n, k, rfl⟩ : ∃ (n : Fin 32768) (k : Fin 2048), i = ix2 n k := ⟨i 0, i 1, eq_ix2 i⟩
  refine ((h c).1 n k).trans ((congrFun (hagree c).2 _).trans ?_)
  exact weights_entry _ _ (hpre c) ⟨n.val + 2, by omega⟩ k (by show n.val + 2 ≠ 1; omega)

/-- The kernel, its literal named, against the rows of the table built from its definition: no condition on the arguments. -/
theorem rows_of_the_definition : Cert.algebraic_KernelNamed_SinusoidIdeal
    (hKernelNamed := Cert.KernelNamed.Gen.facts) (hSinusoidIdeal := Cert.SinusoidIdeal.Gen.facts) := by
  intro m ρ m' ρ' _ _
  refine ⟨_, Cert.KernelNamed.Run.array_run m ρ, ?_⟩
  refine (θ_run Cert.SinusoidIdeal.defs _ _).mono (fun _ h c => ⟨?_, (h c).2⟩) (sinusoid_rows m' ρ')
  funext i
  obtain ⟨n, k, rfl⟩ : ∃ (n : Fin 32768) (k : Fin 2048), i = ix2 n k := ⟨i 0, i 1, eq_ix2 i⟩
  exact (h c).1 n k

/-- Everything that is claimed. -/
theorem claim : Cert.Claim :=
  ⟨Cert.Kernel.Gen.facts, Cert.KernelIdeal.Gen.facts, Cert.ReferenceIdeal.Gen.facts, Cert.KernelNamed.Gen.facts,
    Cert.SinusoidIdeal.Gen.facts, Cert.Pre_weights_are_the_table.Gen.facts,
    fun m ρ _ => Cert.Kernel.Run.frame_holds m ρ,
    fun m ρ _ => Cert.KernelIdeal.Run.frame_holds m ρ,
    fun m ρ _ => Cert.KernelIdeal.Run.frame_holds m ρ,
    reference_frame,
    fun m ρ _ => reference_frame m ρ trivial,
    fun m ρ _ => Cert.KernelNamed.Run.frame_holds m ρ,
    sinusoid_frame,
    trivial,
    rows_of_the_table,
    IdealRules.named_const.statement Cert.KernelNamed.κ "neg_scale" .f32 0xBC13826E#32 ((-((Real.log 10000) * 1023⁻¹) : ℝ) : EReal) rfl,
    rows_of_the_definition⟩

end Cert.Proof

end
